-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x512 : Shape := ⟨3, ![8, 2048, 512]⟩
abbrev S512x64 : Shape := ⟨2, ![512, 64]⟩
abbrev S1 : Shape := ⟨1, ![1]⟩
abbrev S_ : Shape := ⟨0, ![]⟩

class Facts : Prop where
  bcast_S_S8x2048x512 : S_.BroadcastsInDim S8x2048x512 (![] : Fin 0 → Fin S8x2048x512.rank)
  bcast_S_S512x64 : S_.BroadcastsInDim S512x64 (![] : Fin 0 → Fin S512x64.rank)
  bcast_S_S1 : S_.BroadcastsInDim S1 (![] : Fin 0 → Fin S1.rank)

variable [Facts]

def fn {F : FTy → Type} [FloatOps F] (main_arg0 : FVec F S8x2048x512 .f32) (main_arg1 : FVec F S8x2048x512 .f32) (main_arg2 : FVec F S512x64 .f32) (main_arg3 : FVec F S1 .f32) : IVec S8x2048x512 1 × IVec S8x2048x512 1 × IVec S512x64 1 × IVec S1 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_v3 : FVec F S8x2048x512 .f32 := Host.absf main_arg1
  let main_cst_0 : FVec F S_ .f32 := constant S_ .f32 0x7F800000#32
  let main_v4 : FVec F S8x2048x512 .f32 := broadcastInDim S8x2048x512 ![] bcast_S_S8x2048x512 main_cst_0
  let main_v5 : IVec S8x2048x512 1 := cmpf .olt main_v3 main_v4
  let main_v6 : FVec F S512x64 .f32 := Host.absf main_arg2
  let main_cst_1 : FVec F S_ .f32 := constant S_ .f32 0x7F800000#32
  let main_v7 : FVec F S512x64 .f32 := broadcastInDim S512x64 ![] bcast_S_S512x64 main_cst_1
  let main_v8 : IVec S512x64 1 := cmpf .olt main_v6 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  (main_v2, main_v5, main_v8, main_v11)
-- ==== Kernel.lean ====
abbrev S8x2048x512 : Shape := ⟨3, ![8, 2048, 512]⟩
abbrev S512x64 : Shape := ⟨2, ![512, 64]⟩
abbrev S1 : Shape := ⟨1, ![1]⟩
abbrev S8x2048x2048 : Shape := ⟨3, ![8, 2048, 2048]⟩
abbrev S1x2048x512 : Shape := ⟨3, ![1, 2048, 512]⟩
abbrev S1x2048x2048 : Shape := ⟨3, ![1, 2048, 2048]⟩
abbrev S2048x512 : Shape := ⟨2, ![2048, 512]⟩
abbrev S2048x64 : Shape := ⟨2, ![2048, 64]⟩
abbrev S8x512 : Shape := ⟨2, ![8, 512]⟩
abbrev S8x2048 : Shape := ⟨2, ![8, 2048]⟩
abbrev S1x2048 : Shape := ⟨2, ![1, 2048]⟩
abbrev S2048x2048 : Shape := ⟨2, ![2048, 2048]⟩
abbrev S2048 : Shape := ⟨1, ![2048]⟩
abbrev S2048x1 : Shape := ⟨2, ![2048, 1]⟩

abbrev nBuf : Space → Nat
  | .hbm => 6
  | .vmem => 7
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S512x64, .f32⟩
  | .hbm, ⟨3, _⟩ => ⟨S1, .f32⟩
  | .hbm, ⟨4, _⟩ => ⟨S512x64, .bf16⟩
  | .hbm, ⟨5, _⟩ => ⟨S8x2048x2048, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S512x64, .bf16⟩
  | .local _ .vmem, ⟨5, _⟩ => ⟨S1x2048x2048, .f32⟩
  | .local _ .vmem, ⟨6, _⟩ => ⟨S1x2048x2048, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x2048x512 : Shape := ⟨3, ![8, 2048, 512]⟩
abbrev S512x64 : Shape := ⟨2, ![512, 64]⟩
abbrev S1 : Shape := ⟨1, ![1]⟩
abbrev S_ : Shape := ⟨0, ![]⟩
abbrev S8x2048x64 : Shape := ⟨3, ![8, 2048, 64]⟩
abbrev S8x2048x2048 : Shape := ⟨3, ![8, 2048, 2048]⟩
abbrev S1x1x1 : Shape := ⟨3, ![1, 1, 1]⟩
abbrev S8x2048 : Shape := ⟨2, ![8, 2048]⟩
abbrev S8x1x2048 : Shape := ⟨3, ![8, 1, 2048]⟩
abbrev S8x2048x1 : Shape := ⟨3, ![8, 2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S512x64, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x2048x64, .f32⟩
  | .hbm, ⟨13, _⟩ => ⟨S8x2048x64, .f32⟩
  | .hbm, ⟨14, _⟩ => ⟨S8x2048x64, .f32⟩
  | .hbm, ⟨15, _⟩ => ⟨S8x2048x64, .f32⟩
  | .hbm, ⟨16, _⟩ => ⟨S8x2048x64, .f32⟩
  | .hbm, ⟨17, _⟩ => ⟨S8x2048x64, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S1x1x1, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048x512, .f32⟩
  | .hbm, ⟨26, _⟩ => ⟨S8x2048x512, .i1⟩
  | .hbm, ⟨27, _⟩ => ⟨S_, .i1⟩
  | .hbm, ⟨28, _⟩ => ⟨S8x2048, .i1⟩
  | .hbm, ⟨29, _⟩ => ⟨S8x1x2048, .i1⟩
  | .hbm, ⟨30, _⟩ => ⟨S8x1x2048, .f32⟩
  | .hbm, ⟨31, _⟩ => ⟨S_, .f32⟩
  | .hbm, ⟨32, _⟩ => ⟨S8x1x2048, .f32⟩
  | .hbm, ⟨33, _⟩ => ⟨S8x1x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S_, .f32⟩
  | .hbm, ⟨39, _⟩ => ⟨S8x2048, .f32⟩
  | .hbm, ⟨40, _⟩ => ⟨S8x2048, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S8x2048x2048, .f32⟩
  | .hbm, ⟨49, _⟩ => ⟨S8x2048x2048, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proof.Reals.lean ====
module

public import Idealize.ShloMosaic.Lib.Pointwise

/-! The mathematics of the comparison, over the reals: sums and constants of extended reals that are real, the score
of a pair of rows as the kernel and as the reference write it, and the softmax under a shift of its argument. -/

@[expose] public section

set_option maxRecDepth 16384

noncomputable section

open Idealize.ShloMosaic Idealize.ShloMosaic.TcCoe Idealize.SL.Sem

namespace Cert.Reals

/-- A finite sum of reals, each read as an extended real, is the extended real of the sum. -/
theorem sum_real {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- An extended real whose absolute value is below plus infinity is a real number. -/
theorem real_of_abs_lt (x : EReal) (h : max x (-x) < ⊤) : x = (x.toReal : EReal) := by
  refine (EReal.coe_toReal ?_ ?_).symm
  · rintro rfl; simp at h
  · rintro rfl; simp at h

/-! ## Constants -/

/-- The kernel's scale factor is one over 4096. -/
theorem scale_val : Ideal.ofBits FTy.f32 0x39800000#32 = ((1 / 4096 : ℝ) : EReal) := by
  simp [Ideal.ofBits, Ideal.ieee, -EReal.coe_mul]; norm_num

/-- The kernel's penalty is minus one thousand million. -/
theorem penalty_neg_val : Ideal.ofBits FTy.f32 0xCE6E6B28#32 = ((-1000000000 : ℝ) : EReal) := by
  simp [Ideal.ofBits, Ideal.ieee, -EReal.coe_mul]; norm_num

/-- The reference's penalty is one thousand million. -/
theorem penalty_val : Ideal.ofBits FTy.f32 0x4E6E6B28#32 = ((1000000000 : ℝ) : EReal) := by
  simp [Ideal.ofBits, Ideal.ieee, -EReal.coe_mul]; norm_num

/-- The embedding width as a constant is 512. -/
theorem width_val : Ideal.ofBits FTy.f32 0x44000000#32 = ((512 : ℝ) : EReal) := by
  simp [Ideal.ofBits, Ideal.ieee, -EReal.coe_mul]; norm_num

/-- The reduced width as a constant is 64. -/
theorem reduced_val : Ideal.ofBits FTy.f32 0x42800000#32 = ((64 : ℝ) : EReal) := by
  simp [Ideal.ofBits, Ideal.ieee, -EReal.coe_mul]; norm_num

/-- The starting value of a maximum is minus infinity. -/
theorem bottom_val : Ideal.ofBits FTy.f32 0xFF800000#32 = ⊥ := by
  simp [Ideal.ofBits, Ideal.ieee]

/-- The bound of the precondition is plus infinity. -/
theorem top_val : Ideal.ofBits FTy.f32 0x7F800000#32 = ⊤ := by
  simp [Ideal.ofBits, Ideal.ieee]

/-- One over the square root of a positive constant is a real number. -/
theorem inv_sqrt (x : ℝ) (h : 0 < x) : Ideal.div 1 (Ideal.sqrt (x : EReal)) = ((1 / Real.sqrt x : ℝ) : EReal) := by
  rw [Ideal.sqrt_coe, if_neg (not_lt.mpr h.le), Ideal.div_coe (Real.sqrt_pos.mpr h).ne', one_mul]

/-! ## The row of zeros -/

/-- The absolute values of real numbers add up to zero exactly when all of them are zero. -/
theorem abs_sum_zero {n : ℕ} (b : Fin n → ℝ) :
    (∑ d, max (b d : EReal) (-(b d : EReal))) = 0 ↔ ∀ d, b d = 0 := by
  have h : (∑ d, max (b d : EReal) (-(b d : EReal))) = ((∑ d, |b d| : ℝ) : EReal) := by
    rw [← sum_real]
    refine Finset.sum_congr rfl fun d _ => ?_
    rw [← EReal.coe_neg, abs_eq_max_neg]; exact (EReal.coe_strictMono.monotone.map_max).symm
  rw [h, ← EReal.coe_zero, EReal.coe_eq_coe_iff, Finset.sum_eq_zero_iff_of_nonneg fun d _ => abs_nonneg (b d)]
  simp

/-- The conjunction of a family of bits is one exactly when every bit is. -/
theorem all_bits {ι : Type*} [DecidableEq ι] (s : Finset ι) (p : ι → Prop) [DecidablePred p] :
    s.fold IntOp.andi (1#1) (fun d => BitVec.ofBool (decide (p d))) = BitVec.ofBool (decide (∀ d ∈ s, p d)) := by
  induction s using Finset.induction_on with
  | empty => simp
  | insert a s ha ih =>
    rw [Finset.fold_insert ha, ih]
    by_cases h1 : p a <;> by_cases h2 : ∀ d ∈ s, p d <;> simp [Finset.mem_insert, h1, IntOp.andi] <;> (cases (decide (∀ d ∈ s, p d)) <;> rfl)

/-! ## The score of a pair of rows -/

/-- The score of two embedding rows under a projection, with the penalty of a zero second row and no bias. -/
def score {n k : ℕ} (a b : Fin n → ℝ) (w : Fin n → Fin k → ℝ) : ℝ :=
  open Classical in
  (∑ q, (∑ d, a d * w d q) * (∑ d, b d * w d q)) / 4096 + if ∀ d, b d = 0 then -1000000000 else 0

/-- The inner product of a row and a column of reals. -/
theorem dot_real {n : ℕ} (a b : Fin n → ℝ) : (∑ d, (a d : EReal) * (b d : EReal)) = ((∑ d, a d * b d : ℝ) : EReal) := by
  rw [← sum_real]; exact Finset.sum_congr rfl fun d _ => (EReal.coe_mul _ _).symm

/-- The score as the kernel writes it. -/
theorem kernel_score {n k : ℕ} (a b : Fin n → ℝ) (w : Fin n → Fin k → ℝ) :
    (∑ q, (∑ d, (a d : EReal) * (w d q : EReal)) * Ideal.ofBits FTy.f32 0x39800000#32 * ∑ d, (b d : EReal) * (w d q : EReal)) +
      (if (∑ d, max (b d : EReal) (-(b d : EReal))) = 0 then Ideal.ofBits FTy.f32 0xCE6E6B28#32 else 0) =
    ((score a b w : ℝ) : EReal) := by
  classical
  rw [scale_val, penalty_neg_val]
  simp only [dot_real, abs_sum_zero, ← EReal.coe_mul, sum_real]
  rw [score, EReal.coe_add, Finset.sum_div]
  congr 1
  · exact congrArg _ (Finset.sum_congr rfl fun q _ => by ring)
  · split_ifs <;> simp

/-- The score as the reference writes it: the same score with the bias added. -/
theorem reference_score {n k : ℕ} (a b : Fin n → ℝ) (w : Fin n → Fin k → ℝ) (β : ℝ) :
    ((∑ q, ((∑ d, (a d : EReal) * (w d q : EReal)) * Ideal.div 1 (Ideal.sqrt (Ideal.ofBits FTy.f32 0x44000000#32))) *
        ((∑ d, (b d : EReal) * (w d q : EReal)) * Ideal.div 1 (Ideal.sqrt (Ideal.ofBits FTy.f32 0x44000000#32)))) *
      Ideal.div 1 (Ideal.sqrt (Ideal.ofBits FTy.f32 0x42800000#32)) + (β : EReal)) -
      Ideal.ofBits FTy.f32 0x4E6E6B28#32 * FloatOps.uitofp (F := Ideal) FTy.f32
        (Finset.univ.fold IntOp.andi (1#1) fun d => BitVec.ofBool (decide ((b d : EReal) = 0))) =
    ((score a b w + β : ℝ) : EReal) := by
  classical
  have h8 : (1 : ℝ) / Real.sqrt 64 = 1 / 8 := by
    rw [show (64 : ℝ) = 8 ^ 2 by norm_num, Real.sqrt_sq (by norm_num)]
  have h512 : (1 / Real.sqrt 512) * (1 / Real.sqrt 512) = (1 : ℝ) / 512 := by
    rw [div_mul_div_comm, Real.mul_self_sqrt (by norm_num), one_mul]
  have hbit : FloatOps.uitofp (F := Ideal) FTy.f32
      (Finset.univ.fold IntOp.andi (1#1) fun d => BitVec.ofBool (decide ((b d : EReal) = 0))) =
      ((if ∀ d, b d = 0 then 1 else 0 : ℝ) : EReal) := by
    rw [all_bits]
    simp only [EReal.coe_eq_zero, Finset.mem_univ, true_implies]
    by_cases h : ∀ d, b d = 0
    · rw [if_pos h, decide_eq_true h]; simp [FloatOps.uitofp]
    · rw [if_neg h, decide_eq_false h]; simp [FloatOps.uitofp]
  rw [hbit, width_val, reduced_val, penalty_val, inv_sqrt 512 (by norm_num), inv_sqrt 64 (by norm_num), h8]
  simp only [dot_real, ← EReal.coe_mul, sum_real, ← EReal.coe_add, ← EReal.coe_sub]
  congr 1
  have hs : (∑ q, (∑ d, a d * w d q) * (1 / Real.sqrt 512) * ((∑ d, b d * w d q) * (1 / Real.sqrt 512))) =
      (∑ q, (∑ d, a d * w d q) * (∑ d, b d * w d q)) * (1 / 512) := by
    rw [Finset.sum_mul]
    exact Finset.sum_congr rfl fun q _ => by rw [← h512]; ring
  rw [hs, score]
  split_ifs <;> ring

/-! ## The softmax -/

/-- The greatest of finitely many reals (at least one), taken from minus infinity, is a real number. -/
theorem max_real {n : ℕ} (i : Fin n) (x : Fin n → ℝ) :
    ∃ M : ℝ, max (Ideal.ofBits FTy.f32 0xFF800000#32)
      (Finset.univ.fold max (Ideal.ofBits FTy.f32 0xFF800000#32) fun l => (x l : EReal)) = (M : EReal) := by
  rw [bottom_val, max_eq_right bot_le]
  refine ⟨_, (EReal.coe_toReal (ne_of_lt (b := ⊤) ?_) (ne_of_gt (b := ⊥) ?_)).symm⟩
  · exact (Finset.fold_max_lt _).mpr ⟨bot_lt_top, fun l _ => EReal.coe_lt_top _⟩
  · exact (Finset.lt_fold_max _).mpr (.inr ⟨i, Finset.mem_univ i, EReal.bot_lt_coe _⟩)

/-- Subtracting one number from every score of a row, after adding another to every score, leaves the softmax as it was. -/
theorem softmax_shift {n : ℕ} (i : Fin n) (x : Fin n → ℝ) (s M : ℝ) :
    Ideal.div (Ideal.exp ((x i : ℝ) : EReal)) (∑ l, Ideal.exp ((x l : ℝ) : EReal)) =
      Ideal.div (Ideal.exp (((x i + s : ℝ) : EReal) - (M : EReal))) (∑ l, Ideal.exp (((x l + s : ℝ) : EReal) - (M : EReal))) := by
  simp only [← EReal.coe_sub, Ideal.exp_coe, sum_real]
  have pos : ∀ y : Fin n → ℝ, (∑ l, Real.exp (y l)) ≠ 0 := fun y =>
    (Finset.sum_pos (fun l _ => Real.exp_pos _) ⟨i, Finset.mem_univ i⟩).ne'
  rw [Ideal.div_coe (pos _), Ideal.div_coe (pos _), ← EReal.coe_mul, ← EReal.coe_mul]
  congr 1
  have h : ∀ l, Real.exp (x l + s - M) = Real.exp (x l) * Real.exp (s - M) := fun l => by rw [← Real.exp_add]; ring_nf
  have hne := pos x
  have he := (Real.exp_pos (s - M)).ne'
  simp only [h, ← Finset.sum_mul]
  field_simp

end Cert.Reals

end
-- ==== Proof.Stages.lean ====
module

public import proofs.«01_k».proof.Proof.Gen.ReferenceIdeal.Run
public import Idealize.ShloMosaic.Lib.Pointwise

/-! What the reference computes, stage by stage, each stage read at one index. -/

@[expose] public section

set_option maxRecDepth 16384

noncomputable section

open Idealize.ShloMosaic Idealize.ShloMosaic.TcCoe Idealize.SL.Sem

namespace Cert.ReferenceIdeal.Stages

open Cert.ReferenceIdeal Cert.ReferenceIdeal.Gen

/-- One embedding array times the projection matrix, scaled by one over the square root of the embedding width. -/
def proj (A : FVec Ideal S8x2048x512 .f32) (W : FVec Ideal S512x64 .f32) : FVec Ideal S8x2048x64 .f32 :=
  mulf (Host.dotGeneral dot_S8x2048x512_S512x64_S8x2048x64_2_0_01_1_n_n none A W)
    (broadcastInDim S8x2048x64 ![] bcast_S_S8x2048x64
      (Host.divf (constant S_ .f32 0x3F800000#32) (Host.sqrt (constant S_ .f32 0x44000000#32))))

/-- The scaled inner products of two projected arrays, with the bias added. -/
def biased (X Y : FVec Ideal S8x2048x64 .f32) (b : FVec Ideal S1 .f32) : FVec Ideal S8x2048x2048 .f32 :=
  addf (mulf (Host.dotGeneral dot_S8x2048x64_S8x2048x64_S8x2048x2048_2_2_1_1_0_0 none X Y)
      (broadcastInDim S8x2048x2048 ![] bcast_S_S8x2048x2048
        (Host.divf (constant S_ .f32 0x3F800000#32) (Host.sqrt (constant S_ .f32 0x42800000#32)))))
    (broadcastInDim S8x2048x2048 ![0, 1, 2] bcast_S1x1x1_S8x2048x2048_0_1_2
      (broadcastInDim S1x1x1 ![2] bcast_S1_S1x1x1_2 b))

/-- One bit per row of an embedding array: whether every entry of the row is zero. -/
def zeroRow (B : FVec Ideal S8x2048x512 .f32) : IVec S8x2048 1 :=
  Host.reduce IntOp.andi (cmpf .oeq B (broadcastInDim S8x2048x512 ![] bcast_S_S8x2048x512 (constant S_ .f32 0x00000000#32)))
    (constantI S_ 1 1#1) reducesTo_S8x2048x512_S8x2048_d2 h_S_

/-- The scores with the penalty of a zero row subtracted. -/
def masked (S : FVec Ideal S8x2048x2048 .f32) (z : IVec S8x2048 1) : FVec Ideal S8x2048x2048 .f32 :=
  subf S (broadcastInDim S8x2048x2048 ![0, 1, 2] bcast_S8x1x2048_S8x2048x2048_0_1_2
    (mulf (broadcastInDim S8x1x2048 ![] bcast_S_S8x1x2048 (constant S_ .f32 0x4E6E6B28#32))
      (uitofp .f32 (broadcastInDim S8x1x2048 ![0, 2] bcast_S8x2048_S8x1x2048_0_2 z))))

/-- The largest score of each row, the search starting from a given value. -/
def rowMax (S : FVec Ideal S8x2048x2048 .f32) (z : FVec Ideal S_ .f32) : FVec Ideal S8x2048 .f32 :=
  Host.reduce FloatOps.maximumf S z reducesTo_S8x2048x2048_S8x2048_d2 h_S_

/-- Every entry, or a given value where that is larger. -/
def atLeast (X : FVec Ideal S8x2048 .f32) (z : FVec Ideal S_ .f32) : FVec Ideal S8x2048 .f32 :=
  maximumf (broadcastInDim S8x2048 ![] bcast_S_S8x2048 z) X

/-- The exponential of the scores after a value is subtracted from every entry of a row. -/
def shiftedExp (S : FVec Ideal S8x2048x2048 .f32) (M : FVec Ideal S8x2048 .f32) : FVec Ideal S8x2048x2048 .f32 :=
  Host.exp (subf S (broadcastInDim S8x2048x2048 ![0, 1, 2] bcast_S8x2048x1_S8x2048x2048_0_1_2
    (broadcastInDim S8x2048x1 ![0, 1] bcast_S8x2048_S8x2048x1_0_1 M)))

/-- The sum of each row. -/
def rowSum (E : FVec Ideal S8x2048x2048 .f32) : FVec Ideal S8x2048 .f32 :=
  Host.reduceAdd E (constant S_ .f32 0x00000000#32) reducesTo_S8x2048x2048_S8x2048_d2 h_S_

/-- Every entry divided by the value given for its row. -/
def over (E : FVec Ideal S8x2048x2048 .f32) (D : FVec Ideal S8x2048 .f32) : FVec Ideal S8x2048x2048 .f32 :=
  Host.divf E (broadcastInDim S8x2048x2048 ![0, 1, 2] bcast_S8x2048x1_S8x2048x2048_0_1_2
    (broadcastInDim S8x2048x1 ![0, 1] bcast_S8x2048_S8x2048x1_0_1 D))

/-- The reference's scores before the softmax. -/
def scores (A B : FVec Ideal S8x2048x512 .f32) (W : FVec Ideal S512x64 .f32) (b : FVec Ideal S1 .f32) :
    FVec Ideal S8x2048x2048 .f32 :=
  masked (biased (proj A W) (proj B W) b) (zeroRow B)

/-- The reference's softmax of an array of scores, given the value subtracted from each row. -/
def softmax (S : FVec Ideal S8x2048x2048 .f32) (M : FVec Ideal S8x2048 .f32) : FVec Ideal S8x2048x2048 .f32 :=
  over (shiftedExp S M) (rowSum (shiftedExp S M))

/-- The value the reference subtracts from each row: the largest score, searched from minus infinity. -/
def shift (S : FVec Ideal S8x2048x2048 .f32) : FVec Ideal S8x2048 .f32 :=
  atLeast (rowMax S (constant S_ .f32 0xFF800000#32)) (constant S_ .f32 0xFF800000#32)

/-- What the reference returns, from its four arguments. -/
def result (A B : FVec Ideal S8x2048x512 .f32) (W : FVec Ideal S512x64 .f32) (b : FVec Ideal S1 .f32) :
    FVec Ideal S8x2048x2048 .f32 :=
  softmax (scores A B W b) (shift (scores A B W b))

/-- The array the reference leaves is the composition of the stages. -/
theorem result_eq (m : (ℓ : Loc nD τ sig) → Buf (Elt Ideal) ℓ) (c : Dev nD) :
    Value.res_main_v35 m c = result (m ((c.tc : Thread nD τ).loc main_arg0)) (m ((c.tc : Thread nD τ).loc main_arg1))
      (m ((c.tc : Thread nD τ).loc main_arg2)) (m ((c.tc : Thread nD τ).loc main_arg3)) := rfl

/-- An entry of a projected array: the inner product times the scale. -/
theorem proj_apply (A : FVec Ideal S8x2048x512 .f32) (W : FVec Ideal S512x64 .f32) (t : Fin 8) (r : Fin 2048) (q : Fin 64) :
    proj A W (ix3 t r q) = (∑ d : Fin 512, A (ix3 t r d) * W (ix2 d q)) *
      Ideal.div 1 (Ideal.sqrt (Ideal.ofBits FTy.f32 0x44000000#32)) := by
  pointwise [proj]

/-- A biased score: the scaled inner product of two projected rows plus the bias. -/
theorem biased_apply (X Y : FVec Ideal S8x2048x64 .f32) (b : FVec Ideal S1 .f32) (t : Fin 8) (r l : Fin 2048) :
    biased X Y b (ix3 t r l) = (∑ q : Fin 64, X (ix3 t r q) * Y (ix3 t l q)) *
      Ideal.div 1 (Ideal.sqrt (Ideal.ofBits FTy.f32 0x42800000#32)) + b (ix1 0) := by
  pointwise [biased]

/-- The bit of a row is the conjunction, over the row, of its entries being zero. -/
theorem zeroRow_apply (B : FVec Ideal S8x2048x512 .f32) (t : Fin 8) (l : Fin 2048) :
    zeroRow B (ix2 t l) =
      Finset.univ.fold IntOp.andi (1#1) fun d : Fin 512 => BitVec.ofBool (decide (B (ix3 t l d) = 0)) := by
  pointwise [zeroRow]

/-- A masked score: the score less the penalty times the row's bit. -/
theorem masked_apply (S : FVec Ideal S8x2048x2048 .f32) (z : IVec S8x2048 1) (t : Fin 8) (r l : Fin 2048) :
    masked S z (ix3 t r l) = S (ix3 t r l) -
      Ideal.ofBits FTy.f32 0x4E6E6B28#32 * FloatOps.uitofp (F := Ideal) FTy.f32 (z (ix2 t l)) := by
  pointwise [masked]

/-- The largest score of a row, as a fold of the maximum from the starting value. -/
theorem rowMax_apply (S : FVec Ideal S8x2048x2048 .f32) (z : FVec Ideal S_ .f32) (t : Fin 8) (r : Fin 2048) :
    rowMax S z (ix2 t r) = Finset.univ.fold max (z (Shape.Idx.first h_S_)) fun l : Fin 2048 => S (ix3 t r l) := by
  simp only [rowMax, pointwise]

/-- An entry, or the given value where that is larger. -/
theorem atLeast_apply (X : FVec Ideal S8x2048 .f32) (z : FVec Ideal S_ .f32) (t : Fin 8) (r : Fin 2048) :
    atLeast X z (ix2 t r) = max (z ix0) (X (ix2 t r)) := by
  pointwise [atLeast]

/-- An entry of the shifted exponential. -/
theorem shiftedExp_apply (S : FVec Ideal S8x2048x2048 .f32) (M : FVec Ideal S8x2048 .f32) (t : Fin 8) (r l : Fin 2048) :
    shiftedExp S M (ix3 t r l) = Ideal.exp (S (ix3 t r l) - M (ix2 t r)) := by
  pointwise [shiftedExp]

/-- The sum of a row, written as a finite sum. -/
theorem rowSum_apply (E : FVec Ideal S8x2048x2048 .f32) (t : Fin 8) (r : Fin 2048) :
    rowSum E (ix2 t r) = ∑ l : Fin 2048, E (ix3 t r l) := by
  pointwise [rowSum]

/-- An entry of the quotient. -/
theorem over_apply (E : FVec Ideal S8x2048x2048 .f32) (D : FVec Ideal S8x2048 .f32) (t : Fin 8) (r l : Fin 2048) :
    over E D (ix3 t r l) = Ideal.div (E (ix3 t r l)) (D (ix2 t r)) := by
  pointwise [over]

/-- The value subtracted from a row: the fold of the maximum over the row, from minus infinity. -/
theorem shift_apply (S : FVec Ideal S8x2048x2048 .f32) (t : Fin 8) (r : Fin 2048) :
    shift S (ix2 t r) = max (Ideal.ofBits FTy.f32 0xFF800000#32)
      (Finset.univ.fold max (Ideal.ofBits FTy.f32 0xFF800000#32) fun l : Fin 2048 => S (ix3 t r l)) := by
  rw [shift, atLeast_apply, rowMax_apply, constant_apply, constant_apply, Ideal.ofBits_def]

/-- An entry of the softmax. -/
theorem softmax_apply (S : FVec Ideal S8x2048x2048 .f32) (M : FVec Ideal S8x2048 .f32) (t : Fin 8) (r l : Fin 2048) :
    softmax S M (ix3 t r l) =
      Ideal.div (Ideal.exp (S (ix3 t r l) - M (ix2 t r))) (∑ k : Fin 2048, Ideal.exp (S (ix3 t r k) - M (ix2 t r))) := by
  rw [softmax, over_apply, rowSum_apply]
  simp only [shiftedExp_apply]

/-- A score before the softmax. -/
theorem scores_apply (A B : FVec Ideal S8x2048x512 .f32) (W : FVec Ideal S512x64 .f32) (b : FVec Ideal S1 .f32)
    (t : Fin 8) (r l : Fin 2048) : scores A B W b (ix3 t r l) =
      ((∑ q : Fin 64, ((∑ d : Fin 512, A (ix3 t r d) * W (ix2 d q)) * Ideal.div 1 (Ideal.sqrt (Ideal.ofBits FTy.f32 0x44000000#32))) *
          ((∑ d : Fin 512, B (ix3 t l d) * W (ix2 d q)) * Ideal.div 1 (Ideal.sqrt (Ideal.ofBits FTy.f32 0x44000000#32)))) *
        Ideal.div 1 (Ideal.sqrt (Ideal.ofBits FTy.f32 0x42800000#32)) + b (ix1 0)) -
        Ideal.ofBits FTy.f32 0x4E6E6B28#32 * FloatOps.uitofp (F := Ideal) FTy.f32
          (Finset.univ.fold IntOp.andi (1#1) fun d : Fin 512 => BitVec.ofBool (decide (B (ix3 t l d) = 0))) := by
  rw [scores, masked_apply, biased_apply, zeroRow_apply]
  simp only [proj_apply]

end Cert.ReferenceIdeal.Stages

end
-- ==== Proof.Block.lean ====
module

public import proofs.«01_k».proof.Proof.Gen.KernelIdeal.Skeleton
public import Idealize.ShloMosaic.Lib.Pointwise

/-! What one block of the kernel computes, read at one index. -/

@[expose] public section

set_option maxRecDepth 16384

noncomputable section

open Idealize.ShloMosaic Idealize.ShloMosaic.TcCoe Idealize.SL.Sem

namespace Cert.KernelIdeal.Block

open Cert.KernelIdeal Cert.KernelIdeal.Gen

/-- An unnormalised entry of the block: the exponential of a scaled inner product of two projected rows, with a
    penalty added where the absolute values of the second row add up to zero. -/
theorem unnormalised_apply (W : Vec Ideal S512x64 .bf16) (B A : Vec Ideal S1x2048x512 .f32) (r l : Fin 2048) :
    k0_pay2 W B A (ix3 0 r l) = Ideal.exp
      ((∑ q : Fin 64, (∑ d : Fin 512, A (ix3 0 r d) * W (ix2 d q)) * Ideal.ofBits FTy.f32 0x39800000#32 *
          ∑ d : Fin 512, B (ix3 0 l d) * W (ix2 d q)) +
        if (∑ d : Fin 512, FloatOps.absf (F := Ideal) (φ := .f32) (B (ix3 0 l d))) = 0 then Ideal.ofBits FTy.f32 0xCE6E6B28#32 else 0) := by
  pointwise [k0_pay2]
  rfl

/-- An entry of the block: an unnormalised entry over the sum of its row. -/
theorem normalised_apply (E : Vec Ideal S1x2048x2048 .f32) (r l : Fin 2048) :
    k0_pay1 (F := Ideal) (k0_pay3 E) E (ix3 0 r l) = Ideal.div (E (ix3 0 r l)) (∑ k : Fin 2048, E (ix3 0 r k)) := by
  pointwise [k0_pay1, k0_pay3]

end Cert.KernelIdeal.Block

end
-- ==== Proof.Final.lean ====
module

public import proofs.«01_k».proof.Proof.Gen.KernelIdeal.Value
public import proofs.«01_k».proof.Proof.Block
public import Idealize.ShloMosaic.Lib.Pipeline.ValueKit

/-! What the kernel's result array holds after the run, as a function of the arguments. -/

@[expose] public section

set_option maxRecDepth 16384

noncomputable section

open Idealize.ShloMosaic Idealize.ShloMosaic.TcCoe Idealize.SL.Sem

namespace Cert.KernelIdeal.Final

open Cert.KernelIdeal Cert.KernelIdeal.Gen
open Idealize.ShloMosaic.Pipeline (Dat)

/-- An unnormalised entry: row `r` of the first embedding array against row `l` of the second, in batch `t`. -/
def entry (A B : FVec Ideal S8x2048x512 .f32) (W : FVec Ideal S512x64 .f32) (t : Fin 8) (r l : Fin 2048) : EReal :=
  Ideal.exp
    ((∑ q : Fin 64, (∑ d : Fin 512, A (ix3 t r d) * W (ix2 d q)) * Ideal.ofBits FTy.f32 0x39800000#32 *
        ∑ d : Fin 512, B (ix3 t l d) * W (ix2 d q)) +
      if (∑ d : Fin 512, FloatOps.absf (F := Ideal) (φ := .f32) (B (ix3 t l d))) = 0 then Ideal.ofBits FTy.f32 0xCE6E6B28#32 else 0)

/-- The array of the unnormalised entries, each over the sum of its row. -/
def out (A B : FVec Ideal S8x2048x512 .f32) (W : FVec Ideal S512x64 .f32) : FVec Ideal S8x2048x2048 .f32 :=
  fun i => Ideal.div (entry A B W (i 0) (i 1) (i 2)) (∑ k : Fin 2048, entry A B W (i 0) (i 1) k)

variable (m : (ℓ : Loc nD τ sig) → Buf (Elt Ideal) ℓ)

/-- A grid point as a batch number. -/
def batch (t : Fin cfg0.N) : Fin 8 := ⟨t.val, t.isLt⟩

/-- The block each window reads or writes at a grid point: the point's batch, or the whole projection matrix. -/
theorem idx : ∀ t : Fin cfg0.N, win0_0.index t = ![t.val, 0, 0] ∧ win0_1.index t = ![t.val, 0, 0] ∧
    win0_2.index t = ![0, 0] ∧ win0_3.index t = ![t.val, 0, 0] :=
  (by decide +kernel : ∀ t : Fin grid0.N, win0_0.index t = ![t.val, 0, 0] ∧ win0_1.index t = ![t.val, 0, 0] ∧
    win0_2.index t = ![0, 0] ∧ win0_3.index t = ![t.val, 0, 0])

/-- The first embedding block of a point is the point's batch of the first embedding array. -/
theorem block_a (c : Dev nD) (t : Fin cfg0.N) (r : Fin 2048) (d : Fin 512) :
    iblk m c 0 t (ix3 0 r d) = m ((c : Thread nD τ).loc main_arg0) (ix3 (batch t) r d) := by
  blk_point [iblk, V, idx t, batch]

/-- The second embedding block of a point is the point's batch of the second embedding array. -/
theorem block_b (c : Dev nD) (t : Fin cfg0.N) (r : Fin 2048) (d : Fin 512) :
    iblk m c 1 t (ix3 0 r d) = m ((c : Thread nD τ).loc main_arg1) (ix3 (batch t) r d) := by
  blk_point [iblk, V, idx t, batch]

/-- The projection block of a point is the whole projection matrix. -/
theorem block_w (c : Dev nD) (t : Fin cfg0.N) (d : Fin 512) (q : Fin 64) :
    iblk m c 2 t (ix2 d q) = m ((c : Thread nD τ).loc main_arg2) (ix2 d q) := by
  blk_point [iblk, V, idx t]

/-- What a point leaves at an entry of its block. -/
theorem point (c : Dev nD) (t : Fin cfg0.N) (r l : Fin 2048) :
    outsAt0 m c t (ix3 0 r l) = out (m ((c : Thread nD τ).loc main_arg0)) (m ((c : Thread nD τ).loc main_arg1))
      (m ((c : Thread nD τ).loc main_arg2)) (ix3 (batch t) r l) := by
  have h : outsAt0 m c t = k0_pay1 (k0_pay3 (k0_pay2 (iblk m c 2 t) (iblk m c 1 t) (iblk m c 0 t)))
      (k0_pay2 (iblk m c 2 t) (iblk m c 1 t) (iblk m c 0 t)) := by
    unfold outsAt0
    frame_out
  rw [h, Block.normalised_apply]
  simp only [Block.unnormalised_apply, block_a, block_b, block_w]
  rfl

/-- After the run the result array holds that array. -/
theorem final (c : Dev nD) : (dats m 0 c).arrAt 3 cfg0.N =
    out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  obtain ⟨u, r, l, rfl⟩ : ∃ (u : Fin 1) (r l : Fin 2048), y = ix3 u r l := ⟨_, _, _, eq_ix3 y⟩
  obtain rfl : u = 0 := Subsingleton.elim _ _
  refine (point m c t r l).trans ?_
  blk_ext [idx t, batch]

end Cert.KernelIdeal.Final

end
-- ==== Proof.Finite.lean ====
module

public import proofs.«01_k».proof.Proof.Reals
public import proofs.«01_k».proof.Proof.Gen.Pre_finite
public import Idealize.ShloMosaic.Lib.Pointwise

/-! What the precondition gives: every entry of every argument is a real number. -/

@[expose] public section

set_option maxRecDepth 16384

noncomputable section

open Idealize.ShloMosaic Idealize.ShloMosaic.TcCoe Idealize.SL.Sem

namespace Cert.Finite

open Cert.Pre_finite

/-- An entry whose absolute value compares below plus infinity is a real number. -/
theorem real_of_bit (x : Ideal .f32)
    (h : FloatOps.cmpf (F := Ideal) (φ := .f32) .olt (FloatOps.absf x) (FloatOps.ofBits .f32 0x7F800000#32) = 1#1) :
    x = (x.toReal : EReal) := by
  apply Cert.Reals.real_of_abs_lt
  have h' : BitVec.ofBool (decide (max x (-x) < Ideal.ofBits FTy.f32 0x7F800000#32)) = 1#1 := h
  rw [Cert.Reals.top_val] at h'
  by_contra hn
  rw [decide_eq_false hn] at h'
  exact absurd h' (by decide)

/-- Where the precondition holds, the entries of the four arguments are real numbers. -/
theorem real_args (A B : FVec Ideal S8x2048x512 .f32) (W : FVec Ideal S512x64 .f32) (b : FVec Ideal S1 .f32)
    (h : (fn (F := Ideal) A B W b).1 = (fun _ => 1#1) ∧ (fn (F := Ideal) A B W b).2.1 = (fun _ => 1#1) ∧
      (fn (F := Ideal) A B W b).2.2.1 = (fun _ => 1#1) ∧ (fn (F := Ideal) A B W b).2.2.2 = (fun _ => 1#1)) :
    (∀ i, A i = ((A i).toReal : EReal)) ∧ (∀ i, B i = ((B i).toReal : EReal)) ∧
      (∀ i, W i = ((W i).toReal : EReal)) ∧ ∀ i, b i = ((b i).toReal : EReal) :=
  ⟨fun i => real_of_bit _ (congrFun h.1 i), fun i => real_of_bit _ (congrFun h.2.1 i),
    fun i => real_of_bit _ (congrFun h.2.2.1 i), fun i => real_of_bit _ (congrFun h.2.2.2 i)⟩

end Cert.Finite

end
-- ==== Proof.Equation.lean ====
module

public import proofs.«01_k».proof.Proof.Reals
public import proofs.«01_k».proof.Proof.Stages
public import proofs.«01_k».proof.Proof.Final
public import proofs.«01_k».proof.Proof.Finite

/-! The two arrays are equal where every argument is finite. -/

@[expose] public section

set_option maxRecDepth 16384

noncomputable section

open Idealize.ShloMosaic Idealize.ShloMosaic.TcCoe Idealize.SL.Sem

namespace Cert.Equation

open Cert.Reals

/-- Where all four arguments are real numbers, the array the kernel leaves is the array the reference leaves. -/
theorem equal (a b : Fin 8 → Fin 2048 → Fin 512 → ℝ) (w : Fin 512 → Fin 64 → ℝ) (β : ℝ)
    (A B : FVec Ideal Cert.KernelIdeal.S8x2048x512 .f32) (W : FVec Ideal Cert.KernelIdeal.S512x64 .f32)
    (b' : FVec Ideal Cert.ReferenceIdeal.S1 .f32)
    (hA : ∀ t r d, A (ix3 t r d) = ((a t r d : ℝ) : EReal)) (hB : ∀ t r d, B (ix3 t r d) = ((b t r d : ℝ) : EReal))
    (hW : ∀ d q, W (ix2 d q) = ((w d q : ℝ) : EReal)) (hb : b' (ix1 0) = ((β : ℝ) : EReal)) :
    Cert.KernelIdeal.Final.out A B W = Cert.ReferenceIdeal.Stages.result A B W b' := by
  have hk : ∀ t r l, Cert.KernelIdeal.Final.entry A B W t r l = Ideal.exp ((score (a t r) (b t l) w : ℝ) : EReal) := by
    intro t r l
    rw [← kernel_score, Cert.KernelIdeal.Final.entry]
    simp only [hA, hB, hW]
    rfl
  have hs : ∀ t r l, Cert.ReferenceIdeal.Stages.scores A B W b' (ix3 t r l) = ((score (a t r) (b t l) w + β : ℝ) : EReal) := by
    intro t r l
    rw [← reference_score, Cert.ReferenceIdeal.Stages.scores_apply]
    simp only [hA, hB, hW, hb]
  funext i
  obtain ⟨t, r, l, rfl⟩ : ∃ (t : Fin 8) (r l : Fin 2048), i = ix3 t r l := ⟨_, _, _, eq_ix3 i⟩
  obtain ⟨M, hM⟩ := max_real l fun k => score (a t r) (b t k) w + β
  rw [Cert.ReferenceIdeal.Stages.result, Cert.ReferenceIdeal.Stages.softmax_apply, Cert.ReferenceIdeal.Stages.shift_apply]
  simp only [hs, hM]
  rw [← softmax_shift l (fun k => score (a t r) (b t k) w) β M]
  show Ideal.div (Cert.KernelIdeal.Final.entry A B W t r l) (∑ k : Fin 2048, Cert.KernelIdeal.Final.entry A B W t r k) = _
  simp only [hk]

/-- Where the precondition holds, the array the kernel leaves is the array the reference leaves. -/
theorem equal_of_finite (A B : FVec Ideal Cert.KernelIdeal.S8x2048x512 .f32) (W : FVec Ideal Cert.KernelIdeal.S512x64 .f32)
    (b : FVec Ideal Cert.ReferenceIdeal.S1 .f32)
    (h : (Cert.Pre_finite.fn (F := Ideal) A B W b).1 = (fun _ => 1#1) ∧ (Cert.Pre_finite.fn (F := Ideal) A B W b).2.1 = (fun _ => 1#1) ∧
      (Cert.Pre_finite.fn (F := Ideal) A B W b).2.2.1 = (fun _ => 1#1) ∧ (Cert.Pre_finite.fn (F := Ideal) A B W b).2.2.2 = (fun _ => 1#1)) :
    Cert.KernelIdeal.Final.out A B W = Cert.ReferenceIdeal.Stages.result A B W b :=
  have hf := Cert.Finite.real_args A B W b h
  equal (fun t r d => (A (ix3 t r d)).toReal) (fun t r d => (B (ix3 t r d)).toReal) (fun d q => (W (ix2 d q)).toReal)
    (b (ix1 0)).toReal A B W b (fun _ _ _ => hf.1 _) (fun _ _ _ => hf.2.1 _) (fun _ _ => hf.2.2.1 _) (hf.2.2.2 _)

end Cert.Equation

end
-- ==== Proof.lean ====
module

public import proofs.«01_k».proof.Proof.Gen.KernelIdeal.Value
public import proofs.«01_k».proof.Proof.Equation
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, leaves its arguments unchanged and ends with every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Where every argument is finite, the kernel and the reference leave the same result array. -/
theorem same_result : Cert.algebraic_KernelIdeal_ReferenceIdeal_pre_finite := by
  intro m g m' g' hpre hag
  refine ⟨fun c => Cert.KernelIdeal.Final.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Final.final m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    rw [Cert.ReferenceIdeal.Stages.result_eq, (hag c).1, (hag c).2.1, (hag c).2.2.1, (hag c).2.2.2]
    exact (Cert.Equation.equal_of_finite _ _ _ _ (hpre c)).symm

/-- All the claims together. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    same_result⟩

end Cert.Proof

end
